-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x192x224x224 : Shape := ⟨4, ![2, 192, 224, 224]⟩
abbrev S384x192x3x3 : Shape := ⟨4, ![384, 192, 3, 3]⟩
abbrev S384 : Shape := ⟨1, ![384]⟩
abbrev S384x3x3x192 : Shape := ⟨4, ![384, 3, 3, 192]⟩
abbrev S384x1728 : Shape := ⟨2, ![384, 1728]⟩
abbrev S384x1 : Shape := ⟨2, ![384, 1]⟩
abbrev S2x384x224x224 : Shape := ⟨4, ![2, 384, 224, 224]⟩
abbrev S1x192x24x224 : Shape := ⟨4, ![1, 192, 24, 224]⟩
abbrev S1x384x8x224 : Shape := ⟨4, ![1, 384, 8, 224]⟩
abbrev S192x24x224 : Shape := ⟨3, ![192, 24, 224]⟩
abbrev S24x192x224 : Shape := ⟨3, ![24, 192, 224]⟩
abbrev S192x32 : Shape := ⟨2, ![192, 32]⟩
abbrev S192x256 : Shape := ⟨2, ![192, 256]⟩
abbrev S1x192x224 : Shape := ⟨3, ![1, 192, 224]⟩
abbrev S192x224 : Shape := ⟨2, ![192, 224]⟩
abbrev S192x6656 : Shape := ⟨2, ![192, 6656]⟩
abbrev S192x2560 : Shape := ⟨2, ![192, 2560]⟩
abbrev S192x1 : Shape := ⟨2, ![192, 1]⟩
abbrev S192x2559 : Shape := ⟨2, ![192, 2559]⟩
abbrev S192x2048 : Shape := ⟨2, ![192, 2048]⟩
abbrev S1728x2048 : Shape := ⟨2, ![1728, 2048]⟩
abbrev S384x2048 : Shape := ⟨2, ![384, 2048]⟩
abbrev S384x224 : Shape := ⟨2, ![384, 224]⟩
abbrev S384x1x224 : Shape := ⟨3, ![384, 1, 224]⟩
abbrev S384x8x224 : Shape := ⟨3, ![384, 8, 224]⟩

abbrev nBuf : Space → Nat
  | .hbm => 8
  | .vmem => 6
  | .smem => 0
  | _ => 0

abbrev bufTy : (tb : Table) → Fin (tcTables nBuf tb) → BufTy
  | .hbm, ⟨0, _⟩ => ⟨S2x192x224x224, .f32⟩
  | .hbm, ⟨1, _⟩ => ⟨S384x192x3x3, .f32⟩
  | .hbm, ⟨2, _⟩ => ⟨S384, .f32⟩
  | .hbm, ⟨3, _⟩ => ⟨S384x3x3x192, .f32⟩
  | .hbm, ⟨4, _⟩ => ⟨S384x1728, .f32⟩
  | .hbm, ⟨5, _⟩ => ⟨S384x1728, .bf16⟩
  | .hbm, ⟨6, _⟩ => ⟨S384x1, .f32⟩
  | .hbm, ⟨7, _⟩ => ⟨S2x384x224x224, .f32⟩
  | .local _ .vmem, ⟨0, _⟩ => ⟨S1x192x24x224, .f32⟩
  | .local _ .vmem, ⟨1, _⟩ => ⟨S1x192x24x224, .f32⟩
  | .local _ .vmem, ⟨2, _⟩ => ⟨S384x1728, .bf16⟩
  | .local _ .vmem, ⟨3, _⟩ => ⟨S384x1, .f32⟩
  | .local _ .vmem, ⟨4, _⟩ => ⟨S1x384x8x224, .f32⟩
  | .local _ .vmem, ⟨5, _⟩ => ⟨S1x384x8x224, .f32⟩
  | _, _ => ⟨S2x192x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 28], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c25_i32 : BitVec 32 := 25#32
  let v1 : BitVec 32 := Scalar.maxsi c0_i32 v0
  let v2 : BitVec 32 := Scalar.minsi c25_i32 v1
  let c8_i32 : BitVec 32 := 8#32
  let v3 : BitVec 32 := Scalar.muli v2 c8_i32
  let c0_i32_0 : BitVec 32 := 0#32
  let c0_i32_1 : BitVec 32 := 0#32
  let c0_i32_2 : BitVec 32 := 0#32
  ![arg0.toNat, c0_i32_0.toNat, v3.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x192x24x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S384x1728 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S384x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x384x8x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x192x224x224 : Shape := ⟨4, ![2, 192, 224, 224]⟩
abbrev S384x192x3x3 : Shape := ⟨4, ![384, 192, 3, 3]⟩
abbrev S384 : Shape := ⟨1, ![384]⟩
abbrev S_ : Shape := ⟨0, ![]⟩
abbrev S2x192x226x226 : Shape := ⟨4, ![2, 192, 226, 226]⟩
abbrev S2x384x224x224 : Shape := ⟨4, ![2, 384, 224, 224]⟩
abbrev S384x192x1x1 : Shape := ⟨4, ![384, 192, 1, 1]⟩
abbrev S384x192 : Shape := ⟨2, ![384, 192]⟩
abbrev S2x224x224x384 : Shape := ⟨4, ![2, 224, 224, 384]⟩
abbrev S1x384x1x1 : Shape := ⟨4, ![1, 384, 1, 1]⟩

abbrev nBuf : Space → Nat
  | .hbm => 65
  | .vmem => 0
  | .smem => 0
  | _ => 0

abbrev bufTy : (tb : Table) → Fin (tcTables nBuf tb) → BufTy
  | .hbm, ⟨0, _⟩ => ⟨S2x192x224x224, .f32⟩
  | .hbm, ⟨1, _⟩ => ⟨S384x192x3x3, .f32⟩
  | .hbm, ⟨2, _⟩ => ⟨S384, .f32⟩
  | .hbm, ⟨3, _⟩ => ⟨S_, .i32⟩
  | .hbm, ⟨4, _⟩ => ⟨S_, .f32⟩
  | .hbm, ⟨5, _⟩ => ⟨S2x192x226x226, .f32⟩
  | .hbm, ⟨6, _⟩ => ⟨S_, .f32⟩
  | .hbm, ⟨7, _⟩ => ⟨S2x384x224x224, .f32⟩
  | .hbm, ⟨8, _⟩ => ⟨S384x192x1x1, .f32⟩
  | .hbm, ⟨9, _⟩ => ⟨S384x192, .f32⟩
  | .hbm, ⟨10, _⟩ => ⟨S2x192x224x224, .f32⟩
  | .hbm, ⟨11, _⟩ => ⟨S2x224x224x384, .f32⟩
  | .hbm, ⟨12, _⟩ => ⟨S2x384x224x224, .f32⟩
  | .hbm, ⟨13, _⟩ => ⟨S2x384x224x224, .f32⟩
  | .hbm, ⟨14, _⟩ => ⟨S384x192x1x1, .f32⟩
  | .hbm, ⟨15, _⟩ => ⟨S384x192, .f32⟩
  | .hbm, ⟨16, _⟩ => ⟨S2x192x224x224, .f32⟩
  | .hbm, ⟨17, _⟩ => ⟨S2x224x224x384, .f32⟩
  | .hbm, ⟨18, _⟩ => ⟨S2x384x224x224, .f32⟩
  | .hbm, ⟨19, _⟩ => ⟨S2x384x224x224, .f32⟩
  | .hbm, ⟨20, _⟩ => ⟨S384x192x1x1, .f32⟩
  | .hbm, ⟨21, _⟩ => ⟨S384x192, .f32⟩
  | .hbm, ⟨22, _⟩ => ⟨S2x192x224x224, .f32⟩
  | .hbm, ⟨23, _⟩ => ⟨S2x224x224x384, .f32⟩
  | .hbm, ⟨24, _⟩ => ⟨S2x384x224x224, .f32⟩
  | .hbm, ⟨25, _⟩ => ⟨S2x384x224x224, .f32⟩
  | .hbm, ⟨26, _⟩ => ⟨S384x192x1x1, .f32⟩
  | .hbm, ⟨27, _⟩ => ⟨S384x192, .f32⟩
  | .hbm, ⟨28, _⟩ => ⟨S2x192x224x224, .f32⟩
  | .hbm, ⟨29, _⟩ => ⟨S2x224x224x384, .f32⟩
  | .hbm, ⟨30, _⟩ => ⟨S2x384x224x224, .f32⟩
  | .hbm, ⟨31, _⟩ => ⟨S2x384x224x224, .f32⟩
  | .hbm, ⟨32, _⟩ => ⟨S384x192x1x1, .f32⟩
  | .hbm, ⟨33, _⟩ => ⟨S384x192, .f32⟩
  | .hbm, ⟨34, _⟩ => ⟨S2x192x224x224, .f32⟩
  | .hbm, ⟨35, _⟩ => ⟨S2x224x224x384, .f32⟩
  | .hbm, ⟨36, _⟩ => ⟨S2x384x224x224, .f32⟩
  | .hbm, ⟨37, _⟩ => ⟨S2x384x224x224, .f32⟩
  | .hbm, ⟨38, _⟩ => ⟨S384x192x1x1, .f32⟩
  | .hbm, ⟨39, _⟩ => ⟨S384x192, .f32⟩
  | .hbm, ⟨40, _⟩ => ⟨S2x192x224x224, .f32⟩
  | .hbm, ⟨41, _⟩ => ⟨S2x224x224x384, .f32⟩
  | .hbm, ⟨42, _⟩ => ⟨S2x384x224x224, .f32⟩
  | .hbm, ⟨43, _⟩ => ⟨S2x384x224x224, .f32⟩
  | .hbm, ⟨44, _⟩ => ⟨S384x192x1x1, .f32⟩
  | .hbm, ⟨45, _⟩ => ⟨S384x192, .f32⟩
  | .hbm, ⟨46, _⟩ => ⟨S2x192x224x224, .f32⟩
  | .hbm, ⟨47, _⟩ => ⟨S2x224x224x384, .f32⟩
  | .hbm, ⟨48, _⟩ => ⟨S2x384x224x224, .f32⟩
  | .hbm, ⟨49, _⟩ => ⟨S2x384x224x224, .f32⟩
  | .hbm, ⟨50, _⟩ => ⟨S384x192x1x1, .f32⟩
  | .hbm, ⟨51, _⟩ => ⟨S384x192, .f32⟩
  | .hbm, ⟨52, _⟩ => ⟨S2x192x224x224, .f32⟩
  | .hbm, ⟨53, _⟩ => ⟨S2x224x224x384, .f32⟩
  | .hbm, ⟨54, _⟩ => ⟨S2x384x224x224, .f32⟩
  | .hbm, ⟨55, _⟩ => ⟨S2x384x224x224, .f32⟩
  | .hbm, ⟨56, _⟩ => ⟨S384x192x1x1, .f32⟩
  | .hbm, ⟨57, _⟩ => ⟨S384x192, .f32⟩
  | .hbm, ⟨58, _⟩ => ⟨S2x192x224x224, .f32⟩
  | .hbm, ⟨59, _⟩ => ⟨S2x224x224x384, .f32⟩
  | .hbm, ⟨60, _⟩ => ⟨S2x384x224x224, .f32⟩
  | .hbm, ⟨61, _⟩ => ⟨S2x384x224x224, .f32⟩
  | .hbm, ⟨62, _⟩ => ⟨S1x384x1x1, .f32⟩
  | .hbm, ⟨63, _⟩ => ⟨S2x384x224x224, .f32⟩
  | .hbm, ⟨64, _⟩ => ⟨S2x384x224x224, .f32⟩
  | _, _ => ⟨S2x192x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩

abbrev nD : Nat := 1
abbrev τ : Topo := Topo.v7x

variable {F : FTy → Type} [FloatOps F]
-- ==== Proof.Spec.lean ====
/- What a 3x3 convolution with stride 1, zero padding 1 and a bias computes over the extended reals, and the one
   identity of finite sums that the kernel's single long product needs. -/
module

public import Idealize.ShloMosaic.Lib.Pointwise

@[expose] public section

noncomputable section

namespace Cert.Conv

open Idealize.ShloMosaic

/-- The image at row `p - 1` and column `q - 1`, and zero outside: the image under one ring of zeros. -/
def padded (X : FVec Ideal ⟨4, ![2, 192, 224, 224]⟩ .f32) (n : Fin 2) (c : Fin 192) (p q : ℕ) : EReal :=
  if h : (1 ≤ p ∧ p ≤ 224) ∧ (1 ≤ q ∧ q ≤ 224) then X (ix4 n c ⟨p - 1, by omega⟩ ⟨q - 1, by omega⟩) else 0

/-- The convolution: at image `n`, output channel `o`, row `h`, column `w`, the sum over the nine taps and the input
    channels of weight times padded image, and the channel's bias. -/
def conv (X : FVec Ideal ⟨4, ![2, 192, 224, 224]⟩ .f32) (W : FVec Ideal ⟨4, ![384, 192, 3, 3]⟩ .f32)
    (b : FVec Ideal ⟨1, ![384]⟩ .f32) (n : Fin 2) (o : Fin 384) (h w : ℕ) : EReal :=
  (∑ kh : Fin 3, ∑ kw : Fin 3, ∑ c : Fin 192, W (ix4 o c kh kw) * padded X n c (h + kh.val) (w + kw.val)) + b (ix1 o)

/-- A sum over `A * B` positions, read as `A` runs of `B`. -/
theorem sum_runs {M : Type*} [AddCommMonoid M] (A B : ℕ) (f : Fin (A * B) → M) :
    ∑ k, f k = ∑ a : Fin A, ∑ b : Fin B, f ⟨B * a.val + b.val, by
      have := Nat.mul_le_mul_left B (Nat.succ_le_of_lt a.isLt)
      rw [Nat.mul_succ, Nat.mul_comm B A] at this; omega⟩ := by
  rw [← finProdFinEquiv.sum_comp, Fintype.sum_prod_type]
  refine Finset.sum_congr rfl fun a _ => Finset.sum_congr rfl fun b _ => congrArg f (Fin.ext ?_)
  simp [finProdFinEquiv, Nat.add_comm]

/-- The long product's 1728 positions are the nine taps, row by row, of 192 channels each. -/
theorem sum_taps {M : Type*} [AddCommMonoid M] (f : Fin 1728 → M) :
    ∑ k, f k = ∑ kh : Fin 3, ∑ kw : Fin 3, ∑ c : Fin 192, f ⟨192 * (3 * kh.val + kw.val) + c.val, by omega⟩ := by
  rw [sum_runs 9 192 f, sum_runs 3 3]

end Cert.Conv

end
-- ==== Proof.Layout.lean ====
/- The kernel's first stage: 24 image rows laid one after another into a row of 6656 columns, each row given 256 columns
   (224 of image and 32 of zeros), with 256 columns of zeros before the first and after the last. What stands in each
   column of it. -/
module

public import proofs.«01_k».proof.Proof.Gen.KernelIdeal.Value
public import proofs.«01_k».proof.Proof.Spec
public import Idealize.ShloMosaic.Lib.Pipeline.ValueKit

@[expose] public section

set_option maxRecDepth 16384

noncomputable section

namespace Cert.Conv

open Cert.KernelIdeal Cert.KernelIdeal.Gen Idealize.ShloMosaic

/-- A row of 224 columns, channels by columns. -/
abbrev Row := FVec Ideal S192x224 .bf16

/-- Piece `k` of the laid-out block: the image rows at the odd places, zeros at the others. -/
def piece (row : Fin 24 → Row) (z32 : FVec Ideal S192x32 .bf16) (z256 : FVec Ideal S192x256 .bf16) (k : Fin 50) :
    (s : Shape) × (s.Idx → EReal) :=
  if h : k.val % 2 = 1 ∧ k.val < 49 then ⟨S192x224, row ⟨(k.val - 1) / 2, by omega⟩⟩
  else if k.val = 0 ∨ k.val = 49 then ⟨S192x256, z256⟩ else ⟨S192x32, z32⟩

/-- The shape of piece `k`. -/
def pieceShape (k : Fin 50) : Shape :=
  if k.val % 2 = 1 ∧ k.val < 49 then S192x224 else if k.val = 0 ∨ k.val = 49 then S192x256 else S192x32

/-- The column at which piece `k` starts. -/
def pieceStart (k : ℕ) : ℕ :=
  if k = 0 then 0 else if k % 2 = 1 then 256 + 256 * ((k - 1) / 2) else 480 + 256 * ((k - 2) / 2)

/-- Piece `k` has the shape `pieceShape k`, whatever the rows hold. -/
theorem piece_fst (row : Fin 24 → Row) (z32 : FVec Ideal S192x32 .bf16) (z256 : FVec Ideal S192x256 .bf16) (k : Fin 50) :
    (piece row z32 z256 k).1 = pieceShape k := by
  unfold piece pieceShape
  by_cases h : k.val % 2 = 1 ∧ k.val < 49
  · rw [dif_pos h, if_pos h]
  · rw [dif_neg h, if_neg h]; by_cases h' : k.val = 0 ∨ k.val = 49
    · rw [if_pos h', if_pos h']
    · rw [if_neg h', if_neg h']

/-- The shapes of the fifty pieces, as a list free of their contents. -/
theorem pieces_shapes (row : Fin 24 → Row) (z32 : FVec Ideal S192x32 .bf16) (z256 : FVec Ideal S192x256 .bf16) :
    (List.ofFn (piece row z32 z256)).map (·.1) = List.ofFn pieceShape := by
  rw [List.map_ofFn]; exact congrArg List.ofFn (funext fun k => piece_fst row z32 z256 k)

/-- The fifty pieces fill 6656 columns. -/
theorem pieces_fit : Shape.Concatenates (List.ofFn pieceShape) S192x6656 1 := by
  decide +kernel

/-- The pieces before piece `k` take up `pieceStart k` columns. -/
theorem pieces_starts : ∀ k : Fin 50, (((List.ofFn pieceShape).take k.val).map fun s : Shape =>
    if h : s.rank = S192x6656.rank then s.size ((1 : Fin 2).cast h.symm) else 0).sum = pieceStart k.val := by
  decide +kernel

/-- The laid-out block. -/
def layOut (row : Fin 24 → Row) (z32 : FVec Ideal S192x32 .bf16) (z256 : FVec Ideal S192x256 .bf16) :
    FVec Ideal S192x6656 .bf16 :=
  concatenate S192x6656 1 (List.ofFn (piece row z32 z256)) (by rw [pieces_shapes]; exact pieces_fit)

/-- The laid-out block at a column `a` of piece `k`, at the piece's own column `w`. -/
theorem layOut_piece (row : Fin 24 → Row) (z32 : FVec Ideal S192x32 .bf16) (z256 : FVec Ideal S192x256 .bf16)
    (k : Fin 50) (L : ℕ) (x : FVec Ideal ⟨2, ![192, L]⟩ .bf16) (hk : piece row z32 z256 k = ⟨⟨2, ![192, L]⟩, x⟩)
    (c : Fin 192) (w : Fin L) (a : Fin 6656) (ha : pieceStart k.val + w.val = a.val) :
    layOut row z32 z256 (ix2 c a) = x (ix2 c w) := by
  unfold layOut
  refine concatenate_apply_piece 1 _ _ (ix2 c a) k.val (by rw [List.length_ofFn]; exact k.isLt) ⟨2, ![192, L]⟩ x
    ((List.getElem_ofFn _).trans hk) rfl (pieceStart k.val) ?_ (ix2 c w) ?_ ha
  · rw [List.map_take, pieces_shapes]; exact pieces_starts k
  · intro b hb
    match b, hb with
    | 0, _ => rfl
    | 1, hb => exact absurd rfl hb

/-- The laid-out block, column by column: in its run of 256 columns, image row `r - 1` and then zeros; zeros all along
    the first and the last run. -/
theorem layOut_apply (row : Fin 24 → Row) (z32 : FVec Ideal S192x32 .bf16) (z256 : FVec Ideal S192x256 .bf16)
    (h32 : ∀ i, z32 i = 0) (h256 : ∀ i, z256 i = 0) (c : Fin 192) (r : ℕ) (hr : r < 26) (w : Fin 256) (a : Fin 6656)
    (ha : a.val = 256 * r + w.val) :
    layOut row z32 z256 (ix2 c a) = if h : (1 ≤ r ∧ r ≤ 24) ∧ w.val < 224
      then row ⟨r - 1, by omega⟩ (ix2 c ⟨w.val, h.2⟩) else 0 := by
  by_cases h : (1 ≤ r ∧ r ≤ 24) ∧ w.val < 224
  · rw [dif_pos h]
    refine layOut_piece row z32 z256 ⟨2 * (r - 1) + 1, by omega⟩ 224 _ ?_ c ⟨w.val, h.2⟩ a ?_
    · unfold piece; rw [dif_pos ⟨by simp only []; omega, by simp only []; omega⟩]
      have e : (⟨(2 * (r - 1) + 1 - 1) / 2, by omega⟩ : Fin 24) = ⟨r - 1, by omega⟩ := Fin.ext (by simp only []; omega)
      simp only [e]
    · simp only [pieceStart]; rw [if_neg (by omega), if_pos (by omega)]; omega
  · rw [dif_neg h]
    by_cases hr' : r = 0 ∨ r = 25
    · rw [← h256 (ix2 c w)]
      rcases hr' with rfl | rfl
      · refine layOut_piece row z32 z256 0 256 _ ?_ c w a (by simp [pieceStart]; omega)
        unfold piece; rw [dif_neg (by decide), if_pos (by decide)]
      · refine layOut_piece row z32 z256 49 256 _ ?_ c w a (by simp [pieceStart]; omega)
        unfold piece; rw [dif_neg (by decide), if_pos (by decide)]
    · have hw : 224 ≤ w.val := by omega
      rw [← h32 (ix2 c ⟨w.val - 224, by omega⟩)]
      refine layOut_piece row z32 z256 ⟨2 * r, by omega⟩ 32 _ ?_ c ⟨w.val - 224, by omega⟩ a ?_
      · unfold piece; rw [dif_neg (by simp only []; omega), if_neg (by simp only []; omega)]
      · simp only [pieceStart]; rw [if_neg (by omega), if_neg (by omega)]; omega

end Cert.Conv

end
-- ==== Proof.Body.lean ====
/- One call of the kernel's body, stage by stage, and what each stage holds at an index. -/
module

public import proofs.«01_k».proof.Proof.Layout

@[expose] public section

set_option maxRecDepth 16384

noncomputable section

namespace Cert.Conv

open Cert.KernelIdeal Cert.KernelIdeal.Gen Idealize.ShloMosaic

/-! ## The stages -/

/-- Image row `j` lies inside the block of 24. -/
theorem slices_row (j : Fin 24) : S24x192x224.Slices ![j.val, 0, 0] S1x192x224 := by
  revert j; decide +kernel

/-- Tap row `kh`'s 2048 columns lie inside the ten rows' 2560. -/
theorem slices_tap (kh : Fin 3) : S192x2560.Slices ![0, 256 * kh.val] S192x2048 := by
  revert kh; decide +kernel

/-- Output row `r`'s 224 columns lie inside the product's 2048. -/
theorem slices_out (r : Fin 8) : S384x2048.Slices ![0, 256 * r.val] S384x224 := by
  revert r; decide +kernel

/-- Nine views of 192 channels fill 1728 positions. -/
theorem fits_taps : Shape.Concatenates (List.ofFn fun _ : Fin 9 => S192x2048) S1728x2048 0 := by decide +kernel

/-- Eight rows fill the output block's height. -/
theorem fits_out : Shape.Concatenates (List.ofFn fun _ : Fin 8 => S384x1x224) S384x8x224 1 := by decide +kernel

/-- One column and 2559 fill 2560. -/
theorem fits_later : Shape.Concatenates [S192x1, S192x2559] S192x2560 1 := by decide +kernel

/-- 2559 columns and one fill 2560. -/
theorem fits_sooner : Shape.Concatenates [S192x2559, S192x1] S192x2560 1 := by decide +kernel

/-- Image row `j` of the block the window reads, as the body takes it out. -/
def rowOf (x : FVec Ideal S1x192x24x224 .f32) (j : Fin 24) : Row :=
  shapeCast S192x224 (extractStridedSlice S1x192x224 ![j.val, 0, 0] (k0_pay2 (F := Ideal) x) (slices_row j))
    (by decide +kernel)

/-- The ten rows a grid point works with, out of the twenty-six laid out: the first, the last or the middle ones, by
    the point's place along the image's height. -/
def tenRows (i : BitVec 32) (v : FVec Ideal S192x6656 .bf16) : FVec Ideal S192x2560 .bf16 :=
  Scalar.select (Scalar.cmpi .eq i 27#32) (extractStridedSlice S192x2560 ![0, 4096] v (by decide +kernel))
    (Scalar.select (Scalar.cmpi .eq i 0#32) (extractStridedSlice S192x2560 ![0, 0] v (by decide +kernel))
      (extractStridedSlice S192x2560 ![0, 2048] v (by decide +kernel)))

/-- A column of zeros. -/
def zeroCol : FVec Ideal S192x1 .bf16 := broadcast S192x1 (Scalar.ofBits (F := Ideal) .bf16 0x0000#16)

/-- The ten rows one column later, a column of zeros first. -/
def later (v : FVec Ideal S192x2560 .bf16) : FVec Ideal S192x2560 .bf16 :=
  concatenate S192x2560 1 [⟨S192x1, zeroCol⟩,
    ⟨S192x2559, extractStridedSlice S192x2559 ![0, 0] v (by decide +kernel)⟩] fits_later

/-- The ten rows one column sooner, a column of zeros last. -/
def sooner (v : FVec Ideal S192x2560 .bf16) : FVec Ideal S192x2560 .bf16 :=
  concatenate S192x2560 1 [⟨S192x2559, extractStridedSlice S192x2559 ![0, 1] v (by decide +kernel)⟩,
    ⟨S192x1, zeroCol⟩] fits_sooner

/-- The ten rows as tap column `kw` meets them. -/
def shifted (v : FVec Ideal S192x2560 .bf16) (kw : Fin 3) : FVec Ideal S192x2560 .bf16 :=
  match kw with
  | 0 => later v
  | 1 => v
  | 2 => sooner v

/-- The nine taps' views of the ten rows, one under another. -/
def taps (v : FVec Ideal S192x2560 .bf16) : FVec Ideal S1728x2048 .bf16 :=
  concatenate S1728x2048 0 (List.ofFn fun T : Fin 9 => (⟨S192x2048,
    extractStridedSlice S192x2048 ![0, 256 * (T.val / 3)] (shifted v ⟨T.val % 3, Nat.mod_lt _ (by decide)⟩)
      (slices_tap ⟨T.val / 3, by omega⟩)⟩ : (s : Shape) × (s.Idx → EReal))) (by rw [List.map_ofFn]; exact fits_taps)

/-- The product with the weights, and the bias. -/
def product (w : FVec Ideal S384x1728 .bf16) (b : FVec Ideal S384x1 .f32) (v : FVec Ideal S1728x2048 .bf16) :
    FVec Ideal S384x2048 .f32 :=
  addf (matmul (F := Ideal) dot_S384x1728_S1728x2048_S384x2048_1_0_0_1_n_n none
      (shapeCast S384x1728 w (by decide +kernel)) v (constant S384x2048 .f32 0x00000000#32))
    (broadcastTo S384x2048 (shapeCast S384x1 (shapeCast S384x1 b (by decide +kernel)) (by decide +kernel))
      (by decide +kernel))

/-- The eight rows of the output block, the gaps between them dropped. -/
def outRows (v : FVec Ideal S384x2048 .f32) : FVec Ideal S384x8x224 .f32 :=
  concatenate S384x8x224 1 (List.ofFn fun r : Fin 8 => (⟨S384x1x224,
    shapeCast S384x1x224 (extractStridedSlice S384x224 ![0, 256 * r.val] v (slices_out r)) (by decide +kernel)⟩ :
      (s : Shape) × (s.Idx → EReal))) (by rw [List.map_ofFn]; exact fits_out)

set_option maxRecDepth 65536 in
/-- The body's stored block is the stages, one after another. -/
theorem body_eq (i : BitVec 32) (x : FVec Ideal S1x192x24x224 .f32) (w : FVec Ideal S384x1728 .bf16)
    (b : FVec Ideal S384x1 .f32) :
    k0_pay28 (F := Ideal) i (k0_pay2 x) k0_pay3 k0_pay4
      (k0_pay5 x) (k0_pay6 x) (k0_pay7 x) (k0_pay8 x) (k0_pay9 x) (k0_pay10 x) (k0_pay11 x) (k0_pay12 x)
      (k0_pay13 x) (k0_pay14 x) (k0_pay15 x) (k0_pay16 x) (k0_pay17 x) (k0_pay18 x) (k0_pay19 x) (k0_pay20 x)
      (k0_pay21 x) (k0_pay22 x) (k0_pay23 x) (k0_pay24 x) (k0_pay25 x) (k0_pay26 x) (k0_pay27 x) w b
      = outRows (product w b (taps (tenRows i (layOut (rowOf x) (k0_pay3 (F := Ideal)) (k0_pay4 (F := Ideal)))))) := rfl

end Cert.Conv

end
-- ==== Proof.Reads.lean ====
/- What each stage of the body holds at an index, and the whole block as a convolution. -/
module

public import proofs.«01_k».proof.Proof.Body

@[expose] public section

set_option maxRecDepth 16384

noncomputable section

namespace Cert.Conv

open Cert.KernelIdeal Cert.KernelIdeal.Gen Idealize.ShloMosaic

/-- A taken-out row is the block at that row. -/
theorem rowOf_apply (x : FVec Ideal S1x192x24x224 .f32) (j : Fin 24) (c : Fin 192) (w : Fin 224) :
    rowOf x j (ix2 c w) = x (ix4 0 c j w) := by
  pointwise [rowOf, k0_pay2]

/-- The gaps are zero. -/
theorem gap_apply (i : S192x32.Idx) : k0_pay3 (F := Ideal) i = 0 := by
  pointwise [k0_pay3]

/-- The rows before the first and after the last are zero. -/
theorem edge_apply (i : S192x256.Idx) : k0_pay4 (F := Ideal) i = 0 := by
  pointwise [k0_pay4]

/-- The column of the laid-out block at which the ten rows of place `i` along the height start. -/
def start (i : ℕ) : ℕ := if i = 27 then 4096 else if i = 0 then 0 else 2048

/-- The ten rows end inside the laid-out block. -/
theorem start_le (i : ℕ) : start i ≤ 4096 := by unfold start; split <;> (try split) <;> omega

/-- The body's two comparisons of its place along the height. -/
theorem place_eq : ∀ i : Fin 28, Scalar.cmpi .eq (BitVec.ofNat 32 i.val) 27#32 = (if i.val = 27 then 1#1 else 0#1)
    ∧ Scalar.cmpi .eq (BitVec.ofNat 32 i.val) 0#32 = (if i.val = 0 then 1#1 else 0#1) := by
  decide +kernel

/-- A selection on a true bit. -/
theorem select_one {α : Type} (a b : α) : Scalar.select 1#1 a b = a := rfl

/-- A selection on a false bit. -/
theorem select_zero {α : Type} (a b : α) : Scalar.select 0#1 a b = b := rfl

/-- The ten rows are the laid-out block from column `start i` on. -/
theorem tenRows_apply (i : ℕ) (hi : i < 28) (v : FVec Ideal S192x6656 .bf16) (c : Fin 192) (p : Fin 2560) :
    tenRows (BitVec.ofNat 32 i) v (ix2 c p) = v (ix2 c ⟨start i + p.val, by have := start_le i; omega⟩) := by
  obtain ⟨e27, e0⟩ := place_eq ⟨i, hi⟩
  simp only [] at e27 e0
  unfold start tenRows
  rw [e27, e0]
  by_cases h : i = 27
  · rw [if_pos h, select_one]; pointwise [h]
  · rw [if_neg h, select_zero]
    by_cases h0 : i = 0
    · rw [if_pos h0, select_one]; pointwise [h, h0]
    · rw [if_neg h0, select_zero]; pointwise [h, h0]

/-- One column later. -/
theorem later_apply (v : FVec Ideal S192x2560 .bf16) (c : Fin 192) (p : Fin 2560) :
    later v (ix2 c p) = if h : p.val = 0 then 0 else v (ix2 c ⟨p.val - 1, by omega⟩) := by
  pointwise [later, zeroCol, Nat.lt_one_iff]

/-- One column sooner. -/
theorem sooner_apply (v : FVec Ideal S192x2560 .bf16) (c : Fin 192) (p : Fin 2560) :
    sooner v (ix2 c p) = if h : p.val = 2559 then 0 else v (ix2 c ⟨p.val + 1, by omega⟩) := by
  pointwise [sooner, zeroCol]
  by_cases h : p.val = 2559
  · rw [dif_neg (by omega), dif_pos h]
  · rw [dif_pos (by omega), dif_neg h]; simp only [Nat.add_comm]

/-- Position `192 (3 kh + kw) + c` of the nine views is channel `c` of the ten rows shifted by the tap. -/
theorem taps_apply (v : FVec Ideal S192x2560 .bf16) (kh kw : Fin 3) (c : Fin 192) (q : Fin 2048) :
    taps v (ix2 ⟨192 * (3 * kh.val + kw.val) + c.val, by omega⟩ q)
      = shifted v kw (ix2 c ⟨256 * kh.val + q.val, by omega⟩) := by
  have hT : (3 * kh.val + kw.val) / 3 = kh.val ∧ (3 * kh.val + kw.val) % 3 = kw.val := by omega
  unfold taps
  refine (concatenate_ofFn_apply (t := S1728x2048) (s₁ := S192x2048) 0 (fun T : Fin 9 => extractStridedSlice S192x2048 ![0, 256 * (T.val / 3)]
    (shifted v ⟨T.val % 3, Nat.mod_lt _ (by decide)⟩) (slices_tap ⟨T.val / 3, by omega⟩)) _ rfl 192 rfl
    (ix2 (n0 := 1728) (n1 := 2048) ⟨192 * (3 * kh.val + kw.val) + c.val, by omega⟩ q) ⟨3 * kh.val + kw.val, by omega⟩ ?_ (ix2 c q) ?_ ?_).trans ?_
  · show (192 * (3 * kh.val + kw.val) + c.val) / 192 = 3 * kh.val + kw.val
    omega
  · show c.val = (192 * (3 * kh.val + kw.val) + c.val) % 192
    omega
  · intro b hb
    match b, hb with
    | 0, hb => exact absurd rfl hb
    | 1, _ => rfl
  · pointwise [hT.1, hT.2]

/-- The product is a sum over the 1728 positions, and the bias. -/
theorem product_apply (w : FVec Ideal S384x1728 .bf16) (b : FVec Ideal S384x1 .f32) (v : FVec Ideal S1728x2048 .bf16)
    (o : Fin 384) (q : Fin 2048) :
    product w b v (ix2 o q) = (∑ k : Fin 1728, w (ix2 o k) * v (ix2 k q)) + b (ix2 o 0) := by
  pointwise [product]

/-- Output row `r` is the product's run of columns from `256 r` on. -/
theorem outRows_apply (v : FVec Ideal S384x2048 .f32) (o : Fin 384) (r : Fin 8) (w : Fin 224) :
    outRows v (ix3 o r w) = v (ix2 o ⟨256 * r.val + w.val, by omega⟩) := by
  pointwise [outRows]

/-! ## The block as a convolution -/

/-- The first image row of the 24 that place `i` along the height reads. -/
def firstRow (i : ℕ) : ℕ := if i = 27 then 200 else if i = 0 then 0 else 8 * (i - 1)

/-- The 24 rows start early enough to lie inside the image. -/
theorem firstRow_le (i : ℕ) (hi : i < 28) : firstRow i ≤ 200 := by unfold firstRow; split <;> (try split) <;> omega

/-- Each of the 24 rows lies inside the image. -/
theorem row_lt (i : ℕ) (hi : i < 28) (j : Fin 24) : firstRow i + j.val < 224 := by
  have := firstRow_le i hi; omega

/-- Tap and channel name one of the 1728 positions. -/
theorem tap_lt (kh kw : Fin 3) (c : Fin 192) : 192 * (3 * kh.val + kw.val) + c.val < 1728 := by omega

section Block

variable (X : FVec Ideal ⟨4, ![2, 192, 224, 224]⟩ .f32) (W : FVec Ideal ⟨4, ![384, 192, 3, 3]⟩ .f32)
  (b : FVec Ideal ⟨1, ![384]⟩ .f32) (n : Fin 2) (i : ℕ) (hi : i < 28)
  (x : FVec Ideal S1x192x24x224 .f32)
  (hx : ∀ (c : Fin 192) (j : Fin 24) (w : Fin 224),
    x (ix4 0 c j w) = X (ix4 n c ⟨firstRow i + j.val, row_lt i hi j⟩ w))

/-- The ten rows of a grid point. -/
def ten : FVec Ideal S192x2560 .bf16 :=
  tenRows (BitVec.ofNat 32 i) (layOut (rowOf x) (k0_pay3 (F := Ideal)) (k0_pay4 (F := Ideal)))

include hx in
/-- The ten rows hold the padded image's rows `8 i, …, 8 i + 9`, each from its second column on. -/
theorem ten_apply (c : Fin 192) (R s : ℕ) (hR : R < 10) (hs : s < 256) (p : Fin 2560) (hp : p.val = 256 * R + s) :
    ten i x (ix2 c p) = padded X n c (8 * i + R) (s + 1) := by
  have hS : ∃ S, start i = 256 * S ∧ S ≤ 16 ∧ ((1 ≤ S + R ∧ S + R ≤ 24) ↔ (1 ≤ 8 * i + R ∧ 8 * i + R ≤ 224))
      ∧ (1 ≤ S + R ∧ S + R ≤ 24 → firstRow i + (S + R - 1) = 8 * i + R - 1) := by
    unfold start firstRow
    by_cases h : i = 27
    · rw [if_pos h, if_pos h]; exact ⟨16, rfl, le_refl _, by omega, by omega⟩
    · rw [if_neg h, if_neg h]
      by_cases h0 : i = 0
      · rw [if_pos h0, if_pos h0]; exact ⟨0, rfl, by omega, by omega, by omega⟩
      · rw [if_neg h0, if_neg h0]; exact ⟨8, rfl, by omega, by omega, by omega⟩
  obtain ⟨S, hS, hS16, hin, hrow⟩ := hS
  unfold ten padded
  rw [tenRows_apply i hi, layOut_apply _ _ _ gap_apply edge_apply c (S + R) (by omega) ⟨s, hs⟩ _ (by
    simp only []; omega)]
  by_cases h : (1 ≤ S + R ∧ S + R ≤ 24) ∧ s < 224
  · rw [dif_pos h, dif_pos ⟨hin.1 h.1, by omega⟩, rowOf_apply, hx]
    exact congrArg X (by congr 1; exact Fin.ext (hrow h.1))
  · rw [dif_neg h, dif_neg (by rw [← hin]; omega)]

include hx in
/-- The ten rows as tap column `kw` meets them. -/
theorem shifted_apply (c : Fin 192) (kw : Fin 3) (R s : ℕ) (hR : R < 10) (hs : s < 224) (p : Fin 2560)
    (hp : p.val = 256 * R + s) : shifted (ten i x) kw (ix2 c p) = padded X n c (8 * i + R) (s + kw.val) := by
  match kw with
  | 0 =>
    show later _ _ = padded X n c (8 * i + R) s
    rw [later_apply]
    by_cases h0 : s = 0
    · have hz : padded X n c (8 * i + R) s = 0 := by unfold padded; rw [dif_neg (by omega)]
      rw [hz]
      split
      · rfl
      · rw [ten_apply X n i hi x hx c (R - 1) 255 (by omega) (by omega) _ (by simp only []; omega)]
        unfold padded; rw [dif_neg (by omega)]
    · rw [dif_neg (by omega), ten_apply X n i hi x hx c R (s - 1) hR (by omega) _ (by simp only []; omega)]
      congr 1; omega
  | 1 => exact ten_apply X n i hi x hx c R s hR (by omega) p hp
  | 2 =>
    show sooner _ _ = padded X n c (8 * i + R) (s + 2)
    rw [sooner_apply, dif_neg (by omega),
      ten_apply X n i hi x hx c R (s + 1) hR (by omega) _ (by simp only []; omega)]

include hx in
/-- The block a grid point stores is its block of the convolution. -/
theorem block_apply (w : FVec Ideal S384x1728 .bf16) (bb : FVec Ideal S384x1 .f32)
    (hw : ∀ (o : Fin 384) (kh kw : Fin 3) (c : Fin 192),
      w (ix2 o ⟨192 * (3 * kh.val + kw.val) + c.val, tap_lt kh kw c⟩) = W (ix4 o c kh kw))
    (hb : ∀ o : Fin 384, bb (ix2 o 0) = b (ix1 o)) (o : Fin 384) (r : Fin 8) (q : Fin 224) :
    outRows (product w bb (taps (ten i x))) (ix3 o r q) = conv X W b n o (8 * i + r.val) q.val := by
  rw [outRows_apply, product_apply, hb, conv, sum_taps]
  congr 1
  refine Finset.sum_congr rfl fun kh _ => Finset.sum_congr rfl fun kw _ => Finset.sum_congr rfl fun c _ => ?_
  rw [hw, taps_apply, shifted_apply X n i hi x hx c kw (r.val + kh.val) q.val (by omega) q.isLt _ (by
    simp only []; omega), Nat.add_assoc]

end Block

end Cert.Conv

end
-- ==== Proof.KernelValue.lean ====
/- The kernel's result array over the extended reals: the convolution of its arguments. -/
module

public import proofs.«01_k».proof.Proof.Reads

@[expose] public section

set_option maxRecDepth 16384

noncomputable section

namespace Cert.Conv

open Cert.KernelIdeal Cert.KernelIdeal.Gen Idealize.ShloMosaic

variable (m : (ℓ : Loc nD τ sig) → Buf (Elt Ideal) ℓ) (c : Dev nD)

/-- The image, the first argument. -/
abbrev argX : FVec Ideal ⟨4, ![2, 192, 224, 224]⟩ .f32 := m ((c.tc : Thread nD τ).loc main_arg0)
/-- The weights, the second argument. -/
abbrev argW : FVec Ideal ⟨4, ![384, 192, 3, 3]⟩ .f32 := m ((c.tc : Thread nD τ).loc main_arg1)
/-- The bias, the third argument. -/
abbrev argB : FVec Ideal ⟨1, ![384]⟩ .f32 := m ((c.tc : Thread nD τ).loc main_arg2)

/-- The weights as the product takes them: tap by tap, the channels of a tap together. -/
theorem weights_apply (o : Fin 384) (kh kw : Fin 3) (ch : Fin 192) :
    (V m c main_v2 : FVec Ideal S384x1728 .bf16) (ix2 o ⟨192 * (3 * kh.val + kw.val) + ch.val, tap_lt kh kw ch⟩)
      = argW m c (ix4 o ch kh kw) := by
  unfold_abbrev_sides
  after_results
  pointwise []
  refine congrArg (argW m c) ?_
  have e1 : (192 * (3 * kh.val + kw.val) + ch.val) % 192 = ch.val := by omega
  have e2 : (192 * (3 * kh.val + kw.val) + ch.val) / 576 = kh.val := by omega
  have e3 : (192 * (3 * kh.val + kw.val) + ch.val) / 192 % 3 = kw.val := by omega
  simp only [e1, e2, e3]

/-- The bias as the body takes it: a column. -/
theorem bias_apply (o : Fin 384) :
    (V m c main_v3 : FVec Ideal S384x1 .f32) (ix2 o 0) = argB m c (ix1 o) := by
  unfold_abbrev_sides
  after_results
  pointwise []

/-- Where each window's block lies. -/
theorem places : ∀ t : Fin grid0.N,
    (win0_0.index t = ![t.val / 28, 0, firstRow (t.val % 28), 0] ∧ win0_1.index t = ![0, 0] ∧ win0_2.index t = ![0, 0]
      ∧ win0_3.index t = ![t.val / 28, 0, t.val % 28, 0]) ∧ ((grid0.coords t) 1).val = t.val % 28 := by
  decide +kernel

/-- The first window's block: 24 rows of the point's image. -/
theorem x_apply (t : Fin cfg0.N) (n : Fin 2) (hn : n.val = t.val / 28) (ch : Fin 192) (j : Fin 24) (w : Fin 224)
    (h : firstRow (t.val % 28) + j.val < 224) :
    (iblk m c 0 t : FVec Ideal S1x192x24x224 .f32) (ix4 0 ch j w) = argX m c (ix4 n ch ⟨firstRow (t.val % 28) + j.val, h⟩ w) := by
  have h0 := (places t).1.1
  have hemb : ∀ a : Fin 4, ((win0_0.rect t).emb (ix4 0 ch j w) a : ℕ)
      = (![t.val / 28, 0, firstRow (t.val % 28), 0] : Fin 4 → ℕ) a + (ix4 (0 : Fin 1) ch j w a).val := fun a =>
    (win0_0.rect_emb_val_off t (ix4 0 ch j w) a).trans (by rw [← h0])
  refine (congrFun (V_main_arg0 m c) ((win0_0.rect t).emb (ix4 0 ch j w))).trans (congrArg (argX m c) (funext fun a => Fin.ext ?_))
  refine (hemb a).trans ?_
  match a with
  | 0 => exact hn.symm
  | 1 => exact Nat.zero_add _
  | 2 => rfl
  | 3 => exact Nat.zero_add _

/-- The second and the third window hold their whole arrays at every point. -/
theorem w_apply (t : Fin cfg0.N) (o : Fin 384) (k : Fin 1728) :
    (iblk m c 1 t : FVec Ideal S384x1728 .bf16) (ix2 o k) = (V m c main_v2 : FVec Ideal S384x1728 .bf16) (ix2 o k) := by
  have h1 := (places t).1.2.1
  blk_ext [iblk, h1]

/-- The same of the bias. -/
theorem b_apply (t : Fin cfg0.N) (o : Fin 384) :
    (iblk m c 2 t : FVec Ideal S384x1 .f32) (ix2 o 0) = (V m c main_v3 : FVec Ideal S384x1 .f32) (ix2 o 0) := by
  have h2 := (places t).1.2.2.1
  blk_ext [iblk, h2]

/-- The result array after the run. -/
theorem result_eq : (dats m 0 c).arrAt 3 cfg0.N
    = fun j : S2x384x224x224.Idx => conv (argX m c) (argW m c) (argB m c) (j 0) (j 1) (j 2).val (j 3).val := by
  refine (dats m 0 c).arrAt_eq_of_covers 3 _ (by decide +kernel) fun t hf y => ?_
  blk_simp
  rw [after0_3]
  frame_out
  obtain ⟨⟨-, -, -, h3⟩, hc⟩ := places t
  obtain ⟨z, o, r, q, rfl⟩ : ∃ (z : Fin 1) (o : Fin 384) (r : Fin 8) (q : Fin 224), y = ix4 z o r q :=
    ⟨y 0, y 1, y 2, y 3, eq_ix4 y⟩
  have ht : t.val < 56 := t.isLt
  rw [body_eq, hc]
  refine (show k0_pay1 (F := Ideal) _ (ix4 z o r q) = outRows (product (iblk m c 1 t) (iblk m c 2 t)
    (taps (ten (t.val % 28) (iblk m c 0 t)))) (ix3 o r q) by pointwise [k0_pay1, ten]).trans ?_
  rw [block_apply (argX m c) (argW m c) (argB m c) ⟨t.val / 28, by omega⟩ (t.val % 28) (by omega) _
    (fun ch j w => x_apply m c t ⟨t.val / 28, by omega⟩ rfl ch j w
      (row_lt _ (Nat.mod_lt _ (by decide)) j)) _ _ (fun o kh kw ch => (w_apply m c t o
      ⟨192 * (3 * kh.val + kw.val) + ch.val, tap_lt kh kw ch⟩).trans (weights_apply m c o kh kw ch))
    (fun o => (b_apply m c t o).trans (bias_apply m c o))]
  have e0 : ((View.whole main_v4).slice (win0_3.rect t)).emb (ix4 z o r q) 0 = (⟨t.val / 28, by omega⟩ : Fin 2) :=
    Fin.ext ((win0_3.rect_emb_val t (ix4 z o r q) 0).trans (by
      rw [h3]; show t.val / 28 * 1 + z.val = t.val / 28; omega))
  have e1 : ((View.whole main_v4).slice (win0_3.rect t)).emb (ix4 z o r q) 1 = o :=
    Fin.ext ((win0_3.rect_emb_val t (ix4 z o r q) 1).trans (by
      rw [h3]; show 0 * 384 + o.val = o.val; omega))
  have e2 : win0_3.index t 2 * 8 + (ix4 z o r q 2).val = 8 * (t.val % 28) + r.val := by
    rw [h3]; show t.val % 28 * 8 + r.val = _; omega
  have e3 : win0_3.index t 3 * 224 + (ix4 z o r q 3).val = q.val := by
    rw [h3]; show 0 * 224 + q.val = _; omega
  rw [e0, e1, e2, e3]

end Cert.Conv

end
-- ==== Proof.RefValue.lean ====
/- The reference's result over the extended reals: the same convolution of its arguments. -/
module

public import proofs.«01_k».proof.Proof.Gen.ReferenceIdeal.Run
public import proofs.«01_k».proof.Proof.Spec
public import Idealize.ShloMosaic.Lib.Tactic.CleanTypes

@[expose] public section

set_option maxRecDepth 16384

noncomputable section

namespace Cert.Conv.Ref

open Cert.ReferenceIdeal Cert.ReferenceIdeal.Gen Idealize.ShloMosaic

variable (m : (ℓ : Loc nD τ sig) → Buf (Elt Ideal) ℓ) (c : Dev nD)

/-- The image, the first argument. -/
abbrev argX : FVec Ideal ⟨4, ![2, 192, 224, 224]⟩ .f32 := m ((c.tc : Thread nD τ).loc main_arg0)
/-- The weights, the second argument. -/
abbrev argW : FVec Ideal ⟨4, ![384, 192, 3, 3]⟩ .f32 := m ((c.tc : Thread nD τ).loc main_arg1)
/-- The bias, the third argument. -/
abbrev argB : FVec Ideal ⟨1, ![384]⟩ .f32 := m ((c.tc : Thread nD τ).loc main_arg2)

/-- A tap's shift of the padded image lies inside it. -/
theorem slices_x (kh kw : Fin 3) : S2x192x226x226.Slices ![0, 0, kh.val, kw.val] S2x192x224x224 := by
  revert kh kw; decide +kernel

/-- A tap's weights lie inside the weights. -/
theorem slices_w (kh kw : Fin 3) : S384x192x3x3.Slices ![0, 0, kh.val, kw.val] S384x192x1x1 := by
  revert kh kw; decide +kernel

/-- The reference's term for tap `(kh, kw)`: the padded image shifted by the tap, contracted with the tap's weights over
    the input channels. -/
def tap (kh kw : Fin 3) : FVec Ideal S2x384x224x224 .f32 :=
  transpose S2x384x224x224 [0, 3, 1, 2]
    (Host.dotGeneral (F := Ideal) dot_S2x192x224x224_S384x192_S2x224x224x384_1_1_023_0_n_n none
      (extractStridedSlice S2x192x224x224 ![0, 0, kh.val, kw.val]
        (pad S2x192x226x226 ![0, 0, 1, 1] ![0, 0, 1, 1] ![0, 0, 0, 0] (argX m c)
          (sitofp (F := Ideal) .f32 (constantI S_ 32 0#32)) pads_S2x192x224x224_S2x192x226x226_000_000_110_110 h_S_)
        (slices_x kh kw))
      (shapeCast S384x192 (extractStridedSlice S384x192x1x1 ![0, 0, kh.val, kw.val] (argW m c) (slices_w kh kw))
        shapeCasts_S384x192x1x1_S384x192))
    transposes_S2x224x224x384_S2x384x224x224_0_3_1_2

/-- A tap's term is the convolution's summand for that tap. -/
theorem tap_apply (kh kw : Fin 3) (n : Fin 2) (o : Fin 384) (h w : Fin 224) :
    tap m c kh kw (ix4 n o h w)
      = ∑ ch : Fin 192, argW m c (ix4 o ch kh kw) * padded (argX m c) n ch (h.val + kh.val) (w.val + kw.val) := by
  have hz : (FloatOps.sitofp (F := Ideal) FTy.f32 0#32 : EReal) = 0 := by
    show (((0#32).toInt : ℝ) : EReal) = 0
    simp
  pointwise [tap]
  refine Finset.sum_congr rfl fun ch _ => ?_
  rw [mul_comm]
  refine congrArg (argW m c (ix4 o ch kh kw) * ·) ?_
  unfold padded
  split
  · rw [dif_pos (by omega)]
    simp only [Nat.add_comm]
  · rw [dif_neg (by omega)]; exact hz

/-- The reference's result is the nine taps added up, one after another, and the bias. -/
theorem result_taps (n : Fin 2) (o : Fin 384) (h w : Fin 224) :
    (Cert.ReferenceIdeal.Value.res_main_v58 m c : FVec Ideal S2x384x224x224 .f32) (ix4 n o h w)
      = tap m c 0 0 (ix4 n o h w) + tap m c 0 1 (ix4 n o h w) + tap m c 0 2 (ix4 n o h w)
        + tap m c 1 0 (ix4 n o h w) + tap m c 1 1 (ix4 n o h w) + tap m c 1 2 (ix4 n o h w)
        + tap m c 2 0 (ix4 n o h w) + tap m c 2 1 (ix4 n o h w) + tap m c 2 2 (ix4 n o h w) + argB m c (ix1 o) := by
  rw [show (Cert.ReferenceIdeal.Value.res_main_v58 m c : FVec Ideal S2x384x224x224 .f32)
    = addf (addf (addf (addf (addf (addf (addf (addf (addf (addf
        (broadcastInDim S2x384x224x224 ![] bcast_S_S2x384x224x224 (constant S_ .f32 0x00000000#32))
        (tap m c 0 0)) (tap m c 0 1)) (tap m c 0 2)) (tap m c 1 0)) (tap m c 1 1)) (tap m c 1 2)) (tap m c 2 0))
        (tap m c 2 1)) (tap m c 2 2)) _ from rfl]
  pointwise []

/-- The reference's result over the extended reals is the convolution. -/
theorem result_eq : (Cert.ReferenceIdeal.Value.res_main_v58 m c : FVec Ideal S2x384x224x224 .f32)
    = fun j => conv (argX m c) (argW m c) (argB m c) (j 0) (j 1) (j 2).val (j 3).val := by
  funext j
  idx_vars j
  rw [result_taps]
  simp only [tap_apply, conv, Fin.sum_univ_three, ← add_assoc]

end Cert.Conv.Ref

end
-- ==== Proof.lean ====
module

public import proofs.«01_k».proof.Proof.Gen.KernelIdeal.Value
public import proofs.«01_k».proof.Proof.Gen.ReferenceIdeal.Run
public import proofs.«01_k».proof.Proof.KernelValue
public import proofs.«01_k».proof.Proof.RefValue
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The reference's frame: its run leaves the arguments as they were, and it declares no semaphore. -/
theorem frame_reference : Cert.quiescent_ReferenceIdeal := fun m g _ =>
  (θ_run _ _ _).mono (fun r h => ⟨fun c => (h c).2, sem_eq_zero_of_no_sems rfl r.2⟩)
    (Cert.ReferenceIdeal.Value.run m g)

/-- Over the extended reals the kernel and the reference return one array: the convolution of the arguments. -/
theorem same_array : Cert.algebraic_KernelIdeal_ReferenceIdeal := fun m g m' g' _ hargs =>
  ⟨fun c => (Cert.KernelIdeal.Gen.dats m 0 c).arrAt 3 Cert.KernelIdeal.cfg0.N,
    Cert.KernelIdeal.Value.run_blocks m g,
    (θ_run _ _ _).mono (fun r h c => ⟨(h c).1.trans (by
      obtain ⟨h0, h1, h2⟩ := hargs c
      refine (Cert.Conv.Ref.result_eq m' c).trans ?_
      refine Eq.trans ?_ (Cert.Conv.result_eq m c).symm
      unfold Cert.Conv.Ref.argX Cert.Conv.Ref.argW Cert.Conv.Ref.argB
      rw [h0, h1, h2]
      rfl), (h c).2⟩)
      (Cert.ReferenceIdeal.Value.run m' g')⟩

/-- All five claims. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, frame_reference, trivial,
    same_array⟩

end Cert.Proof

end
